-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg_scales [hPre_nonneg_scales : Cert.Pre_nonneg_scales.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_nonneg_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg_scales [hPre_nonneg_scales : Cert.Pre_nonneg_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_nonneg_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_nonneg_scales [hKernelIdeal : Cert.KernelIdeal.Facts] [hPre_nonneg_scales : Cert.Pre_nonneg_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_nonneg_scales [hReferenceIdeal : Cert.ReferenceIdeal.Facts] [hPre_nonneg_scales : Cert.Pre_nonneg_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_nonneg_scales [hKernelIdeal : Cert.KernelIdeal.Facts] [hReferenceIdeal : Cert.ReferenceIdeal.Facts] [hPre_nonneg_scales : Cert.Pre_nonneg_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_nonneg_scales : Cert.Pre_nonneg_scales.Facts),
    quiescent_Kernel (hKernel := hKernel)
    ∧ quiescent_KernelIdeal (hKernelIdeal := hKernelIdeal)
    ∧ quiescent_KernelIdeal_pre_nonneg_scales (hKernelIdeal := hKernelIdeal) (hPre_nonneg_scales := hPre_nonneg_scales)
    ∧ quiescent_ReferenceIdeal (hReferenceIdeal := hReferenceIdeal)
    ∧ quiescent_ReferenceIdeal_pre_nonneg_scales (hReferenceIdeal := hReferenceIdeal) (hPre_nonneg_scales := hPre_nonneg_scales)
    ∧ preserves_Kernel_KernelIdeal
    ∧ algebraic_KernelIdeal_ReferenceIdeal_pre_nonneg_scales (hKernelIdeal := hKernelIdeal) (hReferenceIdeal := hReferenceIdeal) (hPre_nonneg_scales := hPre_nonneg_scales)
-- ==== Pre_nonneg_scales.lean ====
abbrev S32x64x128 : Shape := ⟨3, ![32, 64, 128]⟩
abbrev S32x64 : Shape := ⟨2, ![32, 64]⟩
abbrev S768x512x128 : Shape := ⟨3, ![768, 512, 128]⟩
abbrev S768x512 : Shape := ⟨2, ![768, 512]⟩
abbrev S768 : Shape := ⟨1, ![768]⟩
abbrev S32 : Shape := ⟨1, ![32]⟩
abbrev S_ : Shape := ⟨0, ![]⟩
abbrev S1x768x1 : Shape := ⟨3, ![1, 768, 1]⟩
abbrev S32x1x64 : Shape := ⟨3, ![32, 1, 64]⟩
abbrev S32x768x64 : Shape := ⟨3, ![32, 768, 64]⟩

class Facts : Prop where
  bcast_S_S32x64 : S_.BroadcastsInDim S32x64 (![] : Fin 0 → Fin S32x64.rank)
  bcast_S_S768 : S_.BroadcastsInDim S768 (![] : Fin 0 → Fin S768.rank)
  bcast_S768_S1x768x1_1 : S768.BroadcastsInDim S1x768x1 (![1] : Fin 1 → Fin S1x768x1.rank)
  bcast_S32x64_S32x1x64_0_2 : S32x64.BroadcastsInDim S32x1x64 (![0, 2] : Fin 2 → Fin S32x1x64.rank)
  bcast_S1x768x1_S32x768x64_0_1_2 : S1x768x1.BroadcastsInDim S32x768x64 (![0, 1, 2] : Fin 3 → Fin S32x768x64.rank)
  bcast_S32x1x64_S32x768x64_0_1_2 : S32x1x64.BroadcastsInDim S32x768x64 (![0, 1, 2] : Fin 3 → Fin S32x768x64.rank)

variable [Facts]

def fn {F : FTy → Type} [FloatOps F] (main_arg0 : FVec F S32x64x128 .fp8e4m3) (main_arg1 : FVec F S32x64 .f32) (main_arg2 : FVec F S768x512x128 .fp8e4m3) (main_arg3 : FVec F S768x512 .f32) (main_arg4 : IVec S768 32) (main_arg5 : IVec S32 32) : IVec S32x64 1 × IVec S32x768x64 1 :=
  let main_cst : FVec F S_ .f32 := constant S_ .f32 0x00000000#32
  let main_v0 : FVec F S32x64 .f32 := broadcastInDim S32x64 ![] bcast_S_S32x64 main_cst
  let main_v1 : IVec S32x64 1 := cmpf .oge main_arg1 main_v0
  let main_c : IVec S_ 32 := constantI S_ 32 0#32
  let main_v2 : IVec S768 32 := broadcastInDim S768 ![] bcast_S_S768 main_c
  let main_v3 : IVec S768 1 := cmpi .sgt main_arg4 main_v2
  let main_v4 : IVec S1x768x1 1 := broadcastInDim S1x768x1 ![1] bcast_S768_S1x768x1_1 main_v3
  let main_cst_0 : FVec F S_ .f32 := constant S_ .f32 0x00000000#32
  let main_v5 : FVec F S32x64 .f32 := broadcastInDim S32x64 ![] bcast_S_S32x64 main_cst_0
  let main_v6 : IVec S32x64 1 := cmpf .ogt main_arg1 main_v5
  let main_v7 : IVec S32x1x64 1 := broadcastInDim S32x1x64 ![0, 2] bcast_S32x64_S32x1x64_0_2 main_v6
  let main_v8 : IVec S32x768x64 1 := broadcastInDim S32x768x64 ![0, 1, 2] bcast_S1x768x1_S32x768x64_0_1_2 main_v4
  let main_v9 : IVec S32x768x64 1 := broadcastInDim S32x768x64 ![0, 1, 2] bcast_S32x1x64_S32x768x64_0_1_2 main_v7
  let main_v10 : IVec S32x768x64 1 := ori main_v8 main_v9
  (main_v1, main_v10)
-- ==== Kernel.lean ====
abbrev S32x64x128 : Shape := ⟨3, ![32, 64, 128]⟩
abbrev S32x64 : Shape := ⟨2, ![32, 64]⟩
abbrev S768x512x128 : Shape := ⟨3, ![768, 512, 128]⟩
abbrev S768x512 : Shape := ⟨2, ![768, 512]⟩
abbrev S768 : Shape := ⟨1, ![768]⟩
abbrev S32 : Shape := ⟨1, ![32]⟩
abbrev S2048x128 : Shape := ⟨2, ![2048, 128]⟩
abbrev S128x2048 : Shape := ⟨2, ![128, 2048]⟩
abbrev S1x2048 : Shape := ⟨2, ![1, 2048]⟩
abbrev S768x2048 : Shape := ⟨2, ![768, 2048]⟩
abbrev S8x512x128 : Shape := ⟨3, ![8, 512, 128]⟩
abbrev S8x512 : Shape := ⟨2, ![8, 512]⟩
abbrev S8x2048 : Shape := ⟨2, ![8, 2048]⟩
abbrev S128x256 : Shape := ⟨2, ![128, 256]⟩
abbrev S1x256 : Shape := ⟨2, ![1, 256]⟩
abbrev S1x512 : Shape := ⟨2, ![1, 512]⟩
abbrev S128x512 : Shape := ⟨2, ![128, 512]⟩
abbrev S512x128 : Shape := ⟨2, ![512, 128]⟩
abbrev S1 : Shape := ⟨1, ![1]⟩
abbrev S1x512x128 : Shape := ⟨3, ![1, 512, 128]⟩
abbrev S512x256 : Shape := ⟨2, ![512, 256]⟩
abbrev S128 : Shape := ⟨1, ![128]⟩
abbrev S1x128 : Shape := ⟨2, ![1, 128]⟩
abbrev S768x32x64 : Shape := ⟨3, ![768, 32, 64]⟩
abbrev S32x768x64 : Shape := ⟨3, ![32, 768, 64]⟩
abbrev S_ : Shape := ⟨0, ![]⟩
abbrev S32x768 : Shape := ⟨2, ![32, 768]⟩
abbrev S32x1 : Shape := ⟨2, ![32, 1]⟩
abbrev S32x1x1 : Shape := ⟨3, ![32, 1, 1]⟩
abbrev S1x1x1 : Shape := ⟨3, ![1, 1, 1]⟩

abbrev nBuf : Space → Nat
  | .hbm => 57
  | .vmem => 8
  | .smem => 1
  | _ => 0

abbrev bufTy : (tb : Table) → Fin (tcTables nBuf tb) → BufTy
  | .hbm, ⟨0, _⟩ => ⟨S32x64x128, .fp8e4m3⟩
  | .hbm, ⟨1, _⟩ => ⟨S32x64, .f32⟩
  | .hbm, ⟨2, _⟩ => ⟨S768x512x128, .fp8e4m3⟩
  | .hbm, ⟨3, _⟩ => ⟨S768x512, .f32⟩
  | .hbm, ⟨4, _⟩ => ⟨S32, .i32⟩
  | .hbm, ⟨5, _⟩ => ⟨S2048x128, .fp8e4m3⟩
  | .hbm, ⟨6, _⟩ => ⟨S128x2048, .fp8e4m3⟩
  | .hbm, ⟨7, _⟩ => ⟨S1x2048, .f32⟩
  | .hbm, ⟨8, _⟩ => ⟨S768x2048, .f32⟩
  | .hbm, ⟨9, _⟩ => ⟨S768x32x64, .f32⟩
  | .hbm, ⟨10, _⟩ => ⟨S32x768x64, .f32⟩
  | .hbm, ⟨11, _⟩ => ⟨S_, .f32⟩
  | .hbm, ⟨12, _⟩ => ⟨S32x768, .f32⟩
  | .hbm, ⟨13, _⟩ => ⟨S32x1, .i32⟩
  | .hbm, ⟨14, _⟩ => ⟨S_, .i32⟩
  | .hbm, ⟨15, _⟩ => ⟨S32x1, .i32⟩
  | .hbm, ⟨16, _⟩ => ⟨S32x1, .i1⟩
  | .hbm, ⟨17, _⟩ => ⟨S_, .i32⟩
  | .hbm, ⟨18, _⟩ => ⟨S32x1, .i32⟩
  | .hbm, ⟨19, _⟩ => ⟨S32x1, .i32⟩
  | .hbm, ⟨20, _⟩ => ⟨S32x1, .i32⟩
  | .hbm, ⟨21, _⟩ => ⟨S32x1x1, .i32⟩
  | .hbm, ⟨22, _⟩ => ⟨S1, .i32⟩
  | .hbm, ⟨23, _⟩ => ⟨S_, .i32⟩
  | .hbm, ⟨24, _⟩ => ⟨S32x1x1, .i32⟩
  | .hbm, ⟨25, _⟩ => ⟨S32x1x1, .i1⟩
  | .hbm, ⟨26, _⟩ => ⟨S1x1x1, .i32⟩
  | .hbm, ⟨27, _⟩ => ⟨S32x1x1, .i32⟩
  | .hbm, ⟨28, _⟩ => ⟨S32x1x1, .i1⟩
  | .hbm, ⟨29, _⟩ => ⟨S32x1x1, .i1⟩
  | .hbm, ⟨30, _⟩ => ⟨S_, .i1⟩
  | .hbm, ⟨31, _⟩ => ⟨S32x1, .i1⟩
  | .hbm, ⟨32, _⟩ => ⟨S32x1, .f32⟩
  | .hbm, ⟨33, _⟩ => ⟨S_, .f32⟩
  | .hbm, ⟨34, _⟩ => ⟨S32x1, .f32⟩
  | .hbm, ⟨35, _⟩ => ⟨S32x1, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .i1⟩
  | .hbm, ⟨43, _⟩ => ⟨S_, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S32x1, .f32⟩
  | .hbm, ⟨48, _⟩ => ⟨S32x768, .f32⟩
  | .hbm, ⟨49, _⟩ => ⟨S32x768, .f32⟩
  | .hbm, ⟨50, _⟩ => ⟨S32x768, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S32, .f32⟩
  | .hbm, ⟨55, _⟩ => ⟨S32, .f32⟩
  | .hbm, ⟨56, _⟩ => ⟨S32, .f32⟩
  | .local _ .vmem, ⟨0, _⟩ => ⟨S128x2048, .fp8e4m3⟩
  | .local _ .vmem, ⟨1, _⟩ => ⟨S1x2048, .f32⟩
  | .local _ .vmem, ⟨2, _⟩ => ⟨S8x512x128, .fp8e4m3⟩
  | .local _ .vmem, ⟨3, _⟩ => ⟨S8x512x128, .fp8e4m3⟩
  | .local _ .vmem, ⟨4, _⟩ => ⟨S8x512, .f32⟩
  | .local _ .vmem, ⟨5, _⟩ => ⟨S8x512, .f32⟩
  | .local _ .vmem, ⟨6, _⟩ => ⟨S8x2048, .f32⟩
  | .local _ .vmem, ⟨7, _⟩ => ⟨S8x2048, .f32⟩
  | .local _ .smem, ⟨0, _⟩ => ⟨S768, .i32⟩
  | _, _ => ⟨S32x64x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v8 : Ref sig .tc := ⟨.hbm, 35, rfl⟩
abbrev main_v9 : Ref sig .tc := ⟨.hbm, 36, rfl⟩
abbrev main_cst_0 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![96], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c8_i32 : BitVec 32 := 8#32
  let v0 : BitVec 32 := Scalar.muli arg0 c8_i32
  let v110 : BitVec 32 := Scalar.addi v0 c0_i32
  let v111 : Index := Scalar.indexCast v110
  ![v111.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x64x128 : Shape := ⟨3, ![32, 64, 128]⟩
abbrev S32x64 : Shape := ⟨2, ![32, 64]⟩
abbrev S768x512x128 : Shape := ⟨3, ![768, 512, 128]⟩
abbrev S768x512 : Shape := ⟨2, ![768, 512]⟩
abbrev S768 : Shape := ⟨1, ![768]⟩
abbrev S32 : Shape := ⟨1, ![32]⟩
abbrev S512 : Shape := ⟨1, ![512]⟩
abbrev S1x512 : Shape := ⟨2, ![1, 512]⟩
abbrev S768x1 : Shape := ⟨2, ![768, 1]⟩
abbrev S768x512x32x64 : Shape := ⟨4, ![768, 512, 32, 64]⟩
abbrev S32x768x64x512 : Shape := ⟨4, ![32, 768, 64, 512]⟩
abbrev S32x1x64x1 : Shape := ⟨4, ![32, 1, 64, 1]⟩
abbrev S1x768x1x512 : Shape := ⟨4, ![1, 768, 1, 512]⟩
abbrev S_ : Shape := ⟨0, ![]⟩
abbrev S32x768x64 : Shape := ⟨3, ![32, 768, 64]⟩
abbrev S32x768 : Shape := ⟨2, ![32, 768]⟩
abbrev S32x1 : Shape := ⟨2, ![32, 1]⟩
abbrev S32x1x1 : Shape := ⟨3, ![32, 1, 1]⟩
abbrev S1 : Shape := ⟨1, ![1]⟩
abbrev S1x1x1 : Shape := ⟨3, ![1, 1, 1]⟩

abbrev nBuf : Space → Nat
  | .hbm => 76
  | .vmem => 4
  | .smem => 0
  | _ => 0

abbrev bufTy : (tb : Table) → Fin (tcTables nBuf tb) → BufTy
  | .hbm, ⟨0, _⟩ => ⟨S32x64x128, .fp8e4m3⟩
  | .hbm, ⟨1, _⟩ => ⟨S32x64, .f32⟩
  | .hbm, ⟨2, _⟩ => ⟨S768x512x128, .fp8e4m3⟩
  | .hbm, ⟨3, _⟩ => ⟨S768x512, .f32⟩
  | .hbm, ⟨4, _⟩ => ⟨S768, .i32⟩
  | .hbm, ⟨5, _⟩ => ⟨S32, .i32⟩
  | .hbm, ⟨6, _⟩ => ⟨S32x64x128, .f32⟩
  | .hbm, ⟨7, _⟩ => ⟨S768x512x128, .f32⟩
  | .hbm, ⟨8, _⟩ => ⟨S512, .i32⟩
  | .hbm, ⟨9, _⟩ => ⟨S1x512, .i32⟩
  | .hbm, ⟨10, _⟩ => ⟨S768x1, .i32⟩
  | .hbm, ⟨11, _⟩ => ⟨S768x512, .i32⟩
  | .hbm, ⟨12, _⟩ => ⟨S768x512, .i32⟩
  | .hbm, ⟨13, _⟩ => ⟨S768x512, .i1⟩
  | .hbm, ⟨14, _⟩ => ⟨S768x512x32x64, .f32⟩
  | .hbm, ⟨15, _⟩ => ⟨S32x768x64x512, .f32⟩
  | .hbm, ⟨16, _⟩ => ⟨S32x1x64x1, .f32⟩
  | .hbm, ⟨17, _⟩ => ⟨S32x768x64x512, .f32⟩
  | .hbm, ⟨18, _⟩ => ⟨S32x768x64x512, .f32⟩
  | .hbm, ⟨19, _⟩ => ⟨S1x768x1x512, .f32⟩
  | .hbm, ⟨20, _⟩ => ⟨S32x768x64x512, .f32⟩
  | .hbm, ⟨21, _⟩ => ⟨S32x768x64x512, .f32⟩
  | .hbm, ⟨22, _⟩ => ⟨S1x768x1x512, .i1⟩
  | .hbm, ⟨23, _⟩ => ⟨S_, .f32⟩
  | .hbm, ⟨24, _⟩ => ⟨S_, .f32⟩
  | .hbm, ⟨25, _⟩ => ⟨S32x768x64x512, .i1⟩
  | .hbm, ⟨26, _⟩ => ⟨S32x768x64x512, .f32⟩
  | .hbm, ⟨27, _⟩ => ⟨S32x768x64x512, .f32⟩
  | .hbm, ⟨28, _⟩ => ⟨S_, .f32⟩
  | .hbm, ⟨29, _⟩ => ⟨S32x768x64, .f32⟩
  | .hbm, ⟨30, _⟩ => ⟨S_, .f32⟩
  | .hbm, ⟨31, _⟩ => ⟨S32x768, .f32⟩
  | .hbm, ⟨32, _⟩ => ⟨S32x1, .i32⟩
  | .hbm, ⟨33, _⟩ => ⟨S_, .i32⟩
  | .hbm, ⟨34, _⟩ => ⟨S32x1, .i32⟩
  | .hbm, ⟨35, _⟩ => ⟨S32x1, .i1⟩
  | .hbm, ⟨36, _⟩ => ⟨S_, .i32⟩
  | .hbm, ⟨37, _⟩ => ⟨S32x1, .i32⟩
  | .hbm, ⟨38, _⟩ => ⟨S32x1, .i32⟩
  | .hbm, ⟨39, _⟩ => ⟨S32x1, .i32⟩
  | .hbm, ⟨40, _⟩ => ⟨S32x1x1, .i32⟩
  | .hbm, ⟨41, _⟩ => ⟨S1, .i32⟩
  | .hbm, ⟨42, _⟩ => ⟨S_, .i32⟩
  | .hbm, ⟨43, _⟩ => ⟨S32x1x1, .i32⟩
  | .hbm, ⟨44, _⟩ => ⟨S32x1x1, .i1⟩
  | .hbm, ⟨45, _⟩ => ⟨S1x1x1, .i32⟩
  | .hbm, ⟨46, _⟩ => ⟨S32x1x1, .i32⟩
  | .hbm, ⟨47, _⟩ => ⟨S32x1x1, .i1⟩
  | .hbm, ⟨48, _⟩ => ⟨S32x1x1, .i1⟩
  | .hbm, ⟨49, _⟩ => ⟨S_, .i1⟩
  | .hbm, ⟨50, _⟩ => ⟨S32x1, .i1⟩
  | .hbm, ⟨51, _⟩ => ⟨S32x1, .f32⟩
  | .hbm, ⟨52, _⟩ => ⟨S_, .f32⟩
  | .hbm, ⟨53, _⟩ => ⟨S32x1, .f32⟩
  | .hbm, ⟨54, _⟩ => ⟨S32x1, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .i1⟩
  | .hbm, ⟨62, _⟩ => ⟨S_, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S32x1, .f32⟩
  | .hbm, ⟨67, _⟩ => ⟨S32x768, .f32⟩
  | .hbm, ⟨68, _⟩ => ⟨S32x768, .f32⟩
  | .hbm, ⟨69, _⟩ => ⟨S32x768, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S32, .f32⟩
  | .hbm, ⟨74, _⟩ => ⟨S32, .f32⟩
  | .hbm, ⟨75, _⟩ => ⟨S32, .f32⟩
  | .local _ .vmem, ⟨0, _⟩ => ⟨S32x64x128, .fp8e4m3⟩
  | .local _ .vmem, ⟨1, _⟩ => ⟨S768x512x128, .fp8e4m3⟩
  | .local _ .vmem, ⟨2, _⟩ => ⟨S32x64x128, .f32⟩
  | .local _ .vmem, ⟨3, _⟩ => ⟨S768x512x128, .f32⟩
  | _, _ => ⟨S32x64x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_cst : Ref sig .tc := ⟨.hbm, 52, rfl⟩
abbrev main_call1_v14 : Ref sig .tc := ⟨.hbm, 53, rfl⟩
abbrev main_v20 : Ref sig .tc := ⟨.hbm, 54, rfl⟩
abbrev main_v21 : Ref sig .tc := ⟨.hbm, 55, rfl⟩
abbrev main_cst_2 : Ref sig .tc := ⟨.hbm, 56, rfl⟩
abbrev main_v22 : Ref sig .tc := ⟨.hbm, 57, rfl⟩
abbrev main_v23 : Ref sig .tc := ⟨.hbm, 58, rfl⟩
abbrev main_cst_3 : Ref sig .tc := ⟨.hbm, 59, rfl⟩
abbrev main_v24 : Ref sig .tc := ⟨.hbm, 60, rfl⟩
abbrev main_v25 : Ref sig .tc := ⟨.hbm, 61, rfl⟩
abbrev main_cst_4 : Ref sig .tc := ⟨.hbm, 62, rfl⟩
abbrev main_call2_v0 : Ref sig .tc := ⟨.hbm, 63, rfl⟩
abbrev main_call2_v1 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_5 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x64x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Pre.lean ====
/- What the precondition says, element by element. -/
module

public import proofs.«01_k».proof.Pre_nonneg_scales
public import proofs.«01_k».proof.Proof.Gen.Pre_nonneg_scales
public import Idealize.ShloMosaic.Lib.Pipeline.ValueKit
public import Idealize.ShloMosaic.PureOps.Ideal

@[expose] public section

set_option maxRecDepth 16384

noncomputable section

namespace Cert.Proof

open Idealize.ShloMosaic Idealize.ShloMosaic.TcCoe Idealize.ShloMosaic.Tactic
open Cert.Pre_nonneg_scales

variable (q : FVec Ideal S32x64x128 .fp8e4m3) (qs : FVec Ideal S32x64 .f32) (d : FVec Ideal S768x512x128 .fp8e4m3)
  (ds : FVec Ideal S768x512 .f32) (len : IVec S768 32) (pos : IVec S32 32)

theorem ofBool_true {b : Bool} (h : BitVec.ofBool b = 1#1) : b = true := by
  revert h; cases b <;> decide

theorem ori_true {x y : BitVec 1} (h : IntOp.ori x y = 1#1) : x = 1#1 ∨ y = 1#1 := by
  revert x y; decide

/-- No query scale is negative. -/
theorem scale_nonneg (h : (fn q qs d ds len pos).1 = fun _ => 1#1) (i : S32x64.Idx) : (0 : EReal) ≤ qs i := by
  have h' := congrFun h i
  idx_vars i
  revert h'
  pointwise [fn]
  intro h'
  exact of_decide_eq_true (ofBool_true h')

/-- Each document has a valid token, or the query token's scale is positive. -/
theorem nonempty_or_pos (h : (fn q qs d ds len pos).2 = fun _ => 1#1) (a : Fin 32) (b : Fin 768) (t : Fin 64) :
    IntOp.cmpi CmpIPredicate.sgt (len (ix1 b)) 0#32 = 1#1 ∨ (0 : EReal) < qs (ix2 a t) := by
  have h' := congrFun h (ix3 a b t)
  revert h'
  pointwise [fn]
  intro h'
  exact (ori_true h').imp id fun h => of_decide_eq_true (ofBool_true h)

end Cert.Proof

end
-- ==== Proof.KernelTail.lean ====
/- What the host lines after the kernel's launch make of the launch's output array. -/
module

public import proofs.«01_k».proof.Proof.Gen.KernelIdeal.Frame
public import Idealize.ShloMosaic.Lib.Claim
public import Idealize.ShloMosaic.PureOps.Ideal

@[expose] public section

set_option maxRecDepth 16384

noncomputable section

namespace Cert.KernelIdeal.Tail

open Idealize.ShloMosaic Idealize.ShloMosaic.TcCoe Idealize.ShloMosaic.Tactic
open Idealize.SL Idealize.SL.Sem
open Cert.KernelIdeal.Gen

variable (W : Valuation τ sig (Elt Ideal))

/-- The lines after the launch, in order. -/
abbrev lines : List (HloOp τ sig (Elt Ideal)) := [hostOps1, hostOps1_1, hostOps1_2, hostOps1_3, hostOps1_4].flatten

/-- Scores from the per-token maxima: the sum over the query's tokens. -/
def scores (t : FVec Ideal S32x768x64 .f32) : FVec Ideal S32x768 .f32 :=
  Host.reduceAdd t (constant (F := Ideal) S_ .f32 0x00000000#32) reducesTo_S32x768x64_S32x768_d2 h_S_

/-- The positive document of each query, a negative one counted from the end. -/
def start (pos : S32.Idx → BitVec 32) : S32x1x1.Idx → BitVec 32 :=
  shapeCast S32x1x1
    (select (cmpi .slt (broadcastInDim S32x1 ![0] bcast_S32_S32x1_0 pos) (broadcastInDim S32x1 ![] bcast_S_S32x1 (constantI S_ 32 0#32)))
      (addi (broadcastInDim S32x1 ![0] bcast_S32_S32x1_0 pos) (broadcastInDim S32x1 ![] bcast_S_S32x1 (constantI S_ 32 768#32)))
      (broadcastInDim S32x1 ![0] bcast_S32_S32x1_0 pos)) shapeCasts_S32x1_S32x1x1

/-- Each query's score at its positive document. -/
def picked (s : FVec Ideal S32x768 .f32) (pos : S32.Idx → BitVec 32) : FVec Ideal S32 .f32 :=
  shapeCast S32
    (select
      (Host.reduce IntOp.andi
        (andi (cmpi .sge (start pos) (broadcastInDim S32x1x1 ![] bcast_S_S32x1x1 (constantI S_ 32 0#32)))
          (cmpi .sle (start pos) (broadcastInDim S32x1x1 ![0, 1, 2] bcast_S1x1x1_S32x1x1_0_1_2
            (broadcastInDim S1x1x1 ![2] bcast_S1_S1x1x1_2 (constantI S1 32 767#32)))))
        (constantI S_ 1 1#1) reducesTo_S32x1x1_S32x1_d2 h_S_)
      (Host.gather gather_S32x768_S32x1x1_S32x1_n_1_0_0_1_2_11 s (start pos))
      (broadcastInDim S32x1 ![] bcast_S_S32x1 (constant (F := Ideal) S_ .f32 0x7FC00000#32))) shapeCasts_S32x1_S32

/-- Each query's largest score, zero in its place where it is infinite. -/
def top (s : FVec Ideal S32x768 .f32) : FVec Ideal S32 .f32 :=
  let t := Host.reduce FloatOps.maximumf s (constant (F := Ideal) S_ .f32 0xFF800000#32) reducesTo_S32x768_S32_d1 h_S_
  select (cmpf .olt (Host.absf t) (broadcastInDim S32 ![] bcast_S_S32 (constant (F := Ideal) S_ .f32 0x7F800000#32))) t
    (broadcastInDim S32 ![] bcast_S_S32 (constant (F := Ideal) S_ .f32 0x00000000#32))

/-- The contrastive loss: the logarithm of the summed exponentials less the picked score. -/
def loss (s : FVec Ideal S32x768 .f32) (pos : S32.Idx → BitVec 32) : FVec Ideal S32 .f32 :=
  subf
    (addf
      (Host.log (Host.absf (Host.reduceAdd
        (Host.exp (subf s (broadcastInDim S32x768 ![0, 1] bcast_S32x1_S32x768_0_1 (broadcastInDim S32x1 ![0] bcast_S32_S32x1_0 (top s)))))
        (constant (F := Ideal) S_ .f32 0x00000000#32) reducesTo_S32x768_S32_d1 h_S_)))
      (top s))
    (picked s pos)

/-- The per-token maxima from the launch's output array: its columns split into (query, token), the documents put second. -/
def tokens (o : FVec Ideal S768x2048 .f32) : FVec Ideal S32x768x64 .f32 :=
  transpose S32x768x64 [1, 0, 2] (shapeCast S768x32x64 o shapeCasts_S768x2048_S768x32x64) transposes_S768x32x64_S32x768x64_1_0_2

set_option maxHeartbeats 1600000 in
/-- The per-token maxima are the launch array re-laid, -/
theorem tokens_eq : StableHlo.after lines W (Proc.devRef .tc main_v5) = tokens (W (Proc.devRef .tc main_v3)) := by
  simp only [lines, List.flatten_cons, List.flatten_nil, List.append_nil, List.cons_append, List.nil_append]
  after_results_simp
  rfl

set_option maxHeartbeats 1600000 in
/-- the scores their sums, -/
theorem scores_eq : StableHlo.after lines W (Proc.devRef .tc main_v6) = scores (tokens (W (Proc.devRef .tc main_v3))) := by
  simp only [lines, List.flatten_cons, List.flatten_nil, List.append_nil, List.cons_append, List.nil_append]
  after_results_simp
  rfl

set_option maxHeartbeats 1600000 in
/-- and the loss `loss` of the scores and the positive documents. -/
theorem loss_eq : StableHlo.after lines W (Proc.devRef .tc main_v23) = loss (scores (tokens (W (Proc.devRef .tc main_v3)))) (W (Proc.devRef .tc main_arg5)) := by
  simp only [lines, List.flatten_cons, List.flatten_nil, List.append_nil, List.cons_append, List.nil_append]
  after_results_simp
  sl_kernel_rfl

end Cert.KernelIdeal.Tail

end
-- ==== Proof.ReferenceTail.lean ====
/- What the reference's host lines make of the widened codes. -/
module

public import proofs.«01_k».proof.Proof.KernelTail
public import proofs.«01_k».proof.Proof.Gen.ReferenceIdeal.Frame
public import Idealize.ShloMosaic.Lib.Claim
public import Idealize.ShloMosaic.PureOps.Ideal

@[expose] public section

set_option maxRecDepth 16384

noncomputable section

namespace Cert.ReferenceIdeal.Tail

open Idealize.ShloMosaic Idealize.ShloMosaic.TcCoe Idealize.ShloMosaic.Tactic
open Idealize.SL Idealize.SL.Sem
open Cert.ReferenceIdeal.Gen
open Cert.KernelIdeal.Tail (scores loss)

variable (W : Valuation τ sig (Elt Ideal))

/-- The lines after the widening launch, in order. -/
abbrev lines : List (HloOp τ sig (Elt Ideal)) := [hostOps1, hostOps1_1, hostOps1_2, hostOps1_3, hostOps1_4, hostOps1_5, hostOps1_6].flatten

/-- Every scaled dot product of a query token and a document token, at (query, document, query token, document token). -/
def sims (d : FVec Ideal S768x512x128 .f32) (q : FVec Ideal S32x64x128 .f32) (qs : FVec Ideal S32x64 .f32) (ds : FVec Ideal S768x512 .f32) :
    FVec Ideal S32x768x64x512 .f32 :=
  mulf
    (mulf (transpose S32x768x64x512 [2, 0, 3, 1] (Host.dotGeneral dot_S768x512x128_S32x64x128_S768x512x32x64_2_2_01_01_n_n none d q)
        transposes_S768x512x32x64_S32x768x64x512_2_0_3_1)
      (broadcastInDim S32x768x64x512 ![0, 1, 2, 3] bcast_S32x1x64x1_S32x768x64x512_0_1_2_3
        (broadcastInDim S32x1x64x1 ![0, 2] bcast_S32x64_S32x1x64x1_0_2 qs)))
    (broadcastInDim S32x768x64x512 ![0, 1, 2, 3] bcast_S1x768x1x512_S32x768x64x512_0_1_2_3
      (broadcastInDim S1x768x1x512 ![1, 3] bcast_S768x512_S1x768x1x512_1_3 ds))

/-- Which tokens of each document are valid: those below its length. -/
def valid (len : S768.Idx → BitVec 32) : S768x512.Idx → BitVec 1 :=
  cmpi .slt
    (broadcastInDim S768x512 ![0, 1] bcast_S1x512_S768x512_0_1 (broadcastInDim S1x512 ![1] bcast_S512_S1x512_1 (iotaInDim S512 32 0)))
    (broadcastInDim S768x512 ![0, 1] bcast_S768x1_S768x512_0_1 (broadcastInDim S768x1 ![0] bcast_S768_S768x1_0 len))

/-- The products at the valid tokens, minus infinity at the others. -/
def masked (d : FVec Ideal S768x512x128 .f32) (q : FVec Ideal S32x64x128 .f32) (qs : FVec Ideal S32x64 .f32) (ds : FVec Ideal S768x512 .f32)
    (len : S768.Idx → BitVec 32) : FVec Ideal S32x768x64x512 .f32 :=
  select
    (broadcastInDim S32x768x64x512 ![0, 1, 2, 3] bcast_S1x768x1x512_S32x768x64x512_0_1_2_3
      (broadcastInDim S1x768x1x512 ![1, 3] bcast_S768x512_S1x768x1x512_1_3 (valid len)))
    (sims d q qs ds)
    (broadcastInDim S32x768x64x512 ![] bcast_S_S32x768x64x512 (constant (F := Ideal) S_ .f32 0xFF800000#32))

/-- The per-token maxima. -/
def tokens (d : FVec Ideal S768x512x128 .f32) (q : FVec Ideal S32x64x128 .f32) (qs : FVec Ideal S32x64 .f32) (ds : FVec Ideal S768x512 .f32)
    (len : S768.Idx → BitVec 32) : FVec Ideal S32x768x64 .f32 :=
  Host.reduce FloatOps.maximumf (masked d q qs ds len) (constant (F := Ideal) S_ .f32 0xFF800000#32) reducesTo_S32x768x64x512_S32x768x64_d3 h_S_

/-- The per-token maxima of the buffers the lines start from. -/
abbrev maxima : FVec Ideal S32x768x64 .f32 :=
  tokens (W (Proc.devRef .tc main_v0_1)) (W (Proc.devRef .tc main_v0_0)) (W (Proc.devRef .tc main_arg1)) (W (Proc.devRef .tc main_arg3))
    (W (Proc.devRef .tc main_arg4))

set_option maxHeartbeats 1600000 in
/-- The reference ends with these maxima, -/
theorem tokens_eq : StableHlo.after lines W (Proc.devRef .tc main_v17) = maxima W := by
  simp only [lines, List.flatten_cons, List.flatten_nil, List.append_nil, List.cons_append, List.nil_append]
  after_results_simp
  sl_kernel_rfl

set_option maxHeartbeats 1600000 in
/-- their sums, -/
theorem scores_eq : StableHlo.after lines W (Proc.devRef .tc main_v18) = scores (maxima W) := by
  simp only [lines, List.flatten_cons, List.flatten_nil, List.append_nil, List.cons_append, List.nil_append]
  after_results_simp
  sl_kernel_rfl

set_option maxHeartbeats 1600000 in
/-- and the loss of those: the same functions as after the kernel. -/
theorem loss_eq : StableHlo.after lines W (Proc.devRef .tc main_v35) = loss (scores (maxima W)) (W (Proc.devRef .tc main_arg5)) := by
  simp only [lines, List.flatten_cons, List.flatten_nil, List.append_nil, List.cons_append, List.nil_append]
  after_results_simp
  sl_kernel_rfl

end Cert.ReferenceIdeal.Tail

end
-- ==== Proof.Body.lean ====
/- What the kernel's body stores, as one formula. The body is written out for 8 documents × 16 column
   pieces of 128 query tokens; here piece `k` of the 128 is one term, and the list of writes the run of the body
   finds is the list of these terms. -/
module

public import proofs.«01_k».proof.Proof.Gen.KernelIdeal.Frame

@[expose] public section

set_option maxRecDepth 16384

noncomputable section

namespace Cert.KernelIdeal.Body

open Idealize.ShloMosaic Idealize.ShloMosaic.TcCoe Idealize.ShloMosaic.Tactic
open Idealize.SL Idealize.SL.Sem
open Cert.KernelIdeal.Gen

variable {F : FTy → Type} [FloatOps F]

/-- The document of piece `k`, -/
abbrev doc (k : Fin 128) : Nat := k.val / 16
/-- its tile of 256 query tokens, -/
abbrev tile (k : Fin 128) : Nat := k.val % 16 / 2
/-- and its half of the tile. -/
abbrev half (k : Fin 128) : Nat := k.val % 2

theorem inbQ (k : Fin 128) : ∀ a, (![0, 256 * tile k] : Fin 2 → Nat) a + S128x256.size a ≤ S128x2048.size a := by
  intro a; have := k.isLt; fin_cases a <;> simp [tile] <;> omega
theorem inbQs (k : Fin 128) : ∀ a, (![0, 256 * tile k] : Fin 2 → Nat) a + S1x256.size a ≤ S1x2048.size a := by
  intro a; have := k.isLt; fin_cases a <;> simp [tile] <;> omega
theorem inbS (k : Fin 128) : ∀ a, (![0, 128 * (k.val % 16)] : Fin 2 → Nat) a + S1x128.size a ≤ S1x2048.size a := by
  intro a; have := k.isLt; fin_cases a <;> simp <;> omega
theorem inbO (k : Fin 128) : ∀ a, (![doc k, 128 * (k.val % 16)] : Fin 2 → Nat) a + S1x128.size a ≤ S8x2048.size a := by
  intro a; have := k.isLt; fin_cases a <;> simp [doc] <;> omega
theorem inbD (k : Fin 128) : ∀ a, (![doc k, 0, 0] : Fin 3 → Nat) a + S1x512x128.size a ≤ S8x512x128.size a := by
  intro a; have := k.isLt; fin_cases a <;> simp [doc] <;> omega
theorem inbDs (k : Fin 128) : ∀ a, (![doc k, 0] : Fin 2 → Nat) a + S1x512.size a ≤ S8x512.size a := by
  intro a; have := k.isLt; fin_cases a <;> simp [doc] <;> omega
theorem inbLen (i : grid0.Coords) (k : Fin 128) : ∀ a, k0_off1 i (BitVec.ofNat 32 (doc k)) a + S1.size a ≤ S768.size a :=
  fun a => k0_off1_inb i ⟨doc k, by have := k.isLt; simp only [doc]; omega⟩ a
theorem slicesH (k : Fin 128) : S512x256.Slices ![0, 128 * half k] S512x128 := by
  rcases Nat.mod_two_eq_zero_or_one k.val with h | h <;> simp only [half, h]
  · exact slices_S512x256_o0_0_S512x128
  · exact slices_S512x256_o0_128_S512x128

/-- What the body computes of one block of each operand for piece `k`: the query tile with each column
    negated where its scale is negative, the dot products with the document's tokens, the document
    scales, the mask of the tokens inside the document, the maximum over the tokens, the absolute query scale. -/
def val (k : Fin 128) (q : Vec F S128x256 .fp8e4m3) (qs : Vec F S1x256 .f32) (d : Vec F S1x512x128 .fp8e4m3)
    (ds : Vec F S1x512 .f32) (len : BitVec 32) (s : Vec F S1x128 .f32) : FVec F S1x128 .f32 :=
  mulf
    (shapeCast S1x128
      (multiReduction .maximumf [0] S128
        (select (k0_pay10 (F := F) len)
          (mulf (extractStridedSlice S512x128 ![0, 128 * half k] (k0_pay11 (k0_pay1 q qs) d) (slicesH k)) (k0_pay9 ds))
          (broadcast S512x128 (Scalar.ofBits .f32 0xFF800000#32)))
        0xFF800000#32 reduces_S512x128_S128 (.inl rfl) rfl)
      shapeCasts_S128_S1x128)
    (absf (shapeCast S1x128 s shapeCasts_S1x128_S1x128))

variable {c : Dev nD} (i : grid0.Coords) (arg2 : Memref sig .tc .vmem S128x2048 .fp8e4m3) (harg2 : arg2.IsWhole) (arg3 : Memref sig .tc .vmem S1x2048 .f32) (harg3 : arg3.IsWhole) (arg4 : Memref sig .tc .vmem S8x512x128 .fp8e4m3) (harg4 : arg4.IsWhole) (arg5 : Memref sig .tc .vmem S8x512 .f32) (harg5 : arg5.IsWhole) (arg6 : Memref sig .tc .vmem S8x2048 .f32) (harg6 : arg6.IsWhole)
    (x0 : Vec F S128x2048 .fp8e4m3) (x1 : Vec F S1x2048 .f32) (x2 : Vec F S8x512x128 .fp8e4m3) (x3 : Vec F S8x512 .f32) (xt0 : TbBuf0 (F := F) c tbM0_0)

/-- The length word the body loads for piece `k`. -/
def lenAt (k : Fin 128) : BitVec 32 :=
  View.readAt (Elt F) tbM0_0.view (Rect.unit (s := S768) (k0_off1 i (BitVec.ofNat 32 (doc k))) S1.size (inbLen i k)).toLoadRect xt0
    (Shape.Idx.first (numel1_S1.symm ▸ Nat.one_pos))

/-- Piece `k` as the run writes it: its rectangle, and `val` of the loads. -/
def piece (k : Fin 128) : View.Piece (Elt F) S8x2048 .f32 :=
  ⟨Rect.unit (s := S8x2048) ![doc k, 128 * (k.val % 16)] S1x128.size (inbO k),
   val k
    (View.readAt (Elt F) arg2.view (Rect.unit (s := S128x2048) ![0, 256 * tile k] S128x256.size (inbQ k)).toLoadRect (harg2.unread x0))
    (View.readAt (Elt F) arg3.view (Rect.unit (s := S1x2048) ![0, 256 * tile k] S1x256.size (inbQs k)).toLoadRect (harg3.unread x1))
    (View.readAt (Elt F) arg4.view (Rect.unit (s := S8x512x128) ![doc k, 0, 0] S1x512x128.size (inbD k)).toLoadRect (harg4.unread x2))
    (View.readAt (Elt F) arg5.view (Rect.unit (s := S8x512) ![doc k, 0] S1x512.size (inbDs k)).toLoadRect (harg5.unread x3))
    (lenAt i xt0 k)
    (View.readAt (Elt F) arg3.view (Rect.unit (s := S1x2048) ![0, 128 * (k.val % 16)] S1x128.size (inbS k)).toLoadRect (harg3.unread x1))⟩

set_option maxRecDepth 1000000 in
/-- The writes the run of the body finds are the 128 pieces, the last written first. -/
theorem run_pieces :
    (kernelRun0_A c i arg2 harg2 arg3 harg3 arg4 harg4 arg5 harg5 arg6 harg6 x0 x1 x2 x3 xt0).1
      = (List.finRange 128).reverse.map (piece i arg2 harg2 arg3 harg3 arg4 harg4 arg5 harg5 x0 x1 x2 x3 xt0) := by
  sl_kernel_rfl

end Cert.KernelIdeal.Body

end
-- ==== Proof.Block.lean ====
/- What one grid point leaves in the output block, as a function of the point's input blocks at the ideal
   instance: the 128 pieces of Body.lean are the restrictions of one block function. -/
module

public import proofs.«01_k».proof.Proof.Body
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Idealize.SL Idealize.SL.Sem
open Cert.KernelIdeal.Gen

/-- One output of the kernel: the maximum over a document's tokens inside its length `len` of the dot product of
    the sign-flipped query column `q` and the token, times the token's scale; times the absolute query scale `qs`.
    `0xFF800000` is minus infinity. -/
def cell (len : BitVec 32) (q : Fin 128 → EReal) (qs : EReal) (d : Fin 512 → Fin 128 → EReal) (ds : Fin 512 → EReal) : EReal :=
  Finset.fold max (Ideal.ofBits FTy.f32 0xFF800000#32)
    (fun s => Scalar.select (IntOp.cmpi CmpIPredicate.slt (BitVec.ofNat 32 s.val) len)
      ((∑ k, d s k * if qs < 0 then 0 - q k else q k) * ds s) (Ideal.ofBits FTy.f32 0xFF800000#32))
    Finset.univ * (FloatOps.absf (F := Ideal) (φ := .f32) qs : EReal)

/-- The output block: row `y 0` is a document of the block, column `y 1` a query token. -/
def block (q : Vec Ideal S128x2048 .fp8e4m3) (qs : Vec Ideal S1x2048 .f32) (d : Vec Ideal S8x512x128 .fp8e4m3)
    (ds : Vec Ideal S8x512 .f32) (len : Fin 8 → BitVec 32) (y : S8x2048.Idx) : EReal :=
  cell (len (y 0)) (fun k => q (ix2 k (y 1))) (qs (ix2 0 (y 1))) (fun s k => d (ix3 (y 0) s k)) (fun s => ds (ix2 (y 0) s))

theorem val_apply (k : Fin 128) (q : Vec Ideal S128x256 .fp8e4m3) (qs : Vec Ideal S1x256 .f32) (d : Vec Ideal S1x512x128 .fp8e4m3)
    (ds : Vec Ideal S1x512 .f32) (len : BitVec 32) (s : Vec Ideal S1x128 .f32) (l : Fin 128)
    (hs : s (ix2 0 l) = qs (ix2 0 ⟨128 * half k + l.val, by have := k.isLt; have := l.isLt; simp only [half]; omega⟩)) :
    val k q qs d ds len s (ix2 0 l)
      = cell len (fun kk => q (ix2 kk ⟨128 * half k + l.val, by have := k.isLt; have := l.isLt; simp only [half]; omega⟩))
          (qs (ix2 0 ⟨128 * half k + l.val, by have := k.isLt; have := l.isLt; simp only [half]; omega⟩))
          (fun t kk => d (ix3 0 t kk)) (fun t => ds (ix2 0 t)) := by
  unfold cell
  rw [← hs]
  pointwise [val, k0_pay10, k0_pay11, k0_pay1, k0_pay9]
  rw [hs]

/-- Piece `k` of the block's loads is the block function over the piece's rectangle. -/
theorem val_block (k : Fin 128) (q : Vec Ideal S128x2048 .fp8e4m3) (qs : Vec Ideal S1x2048 .f32) (d : Vec Ideal S8x512x128 .fp8e4m3)
    (ds : Vec Ideal S8x512 .f32) (len : Fin 8 → BitVec 32) (x : S1x128.Idx) :
    val (F := Ideal) k
        (View.ld (Val := Elt Ideal) (e' := .fp8e4m3) q (Rect.unit (s := S128x2048) ![0, 256 * tile k] S128x256.size (inbQ k)))
        (View.ld (Val := Elt Ideal) (e' := .f32) qs (Rect.unit (s := S1x2048) ![0, 256 * tile k] S1x256.size (inbQs k)))
        (View.ld (Val := Elt Ideal) (e' := .fp8e4m3) d (Rect.unit (s := S8x512x128) ![doc k, 0, 0] S1x512x128.size (inbD k)))
        (View.ld (Val := Elt Ideal) (e' := .f32) ds (Rect.unit (s := S8x512) ![doc k, 0] S1x512.size (inbDs k)))
        (len ⟨doc k, by have := k.isLt; simp only [doc]; omega⟩)
        (View.ld (Val := Elt Ideal) (e' := .f32) qs (Rect.unit (s := S1x2048) ![0, 128 * (k.val % 16)] S1x128.size (inbS k))) x
      = block q qs d ds len ((Rect.unit (s := S8x2048) ![doc k, 128 * (k.val % 16)] S1x128.size (inbO k)).emb x) := by
  idx_vars x
  obtain rfl : x0 = 0 := Subsingleton.elim _ _
  have hk := k.isLt
  have hl := x1.isLt
  refine (val_apply k _ _ _ _ _ _ x1 ?_).trans ?_
  · pointwise []
    congr 2
    exact Fin.ext (by simp only [tile, half]; omega)
  · have e0 : (Rect.unit (s := S8x2048) ![doc k, 128 * (k.val % 16)] S1x128.size (inbO k)).emb (ix2 0 x1) 0
        = (⟨doc k, by simp only [doc]; omega⟩ : Fin 8) :=
      Fin.ext (show doc k + 1 * 0 = doc k by omega)
    have e1 : (Rect.unit (s := S8x2048) ![doc k, 128 * (k.val % 16)] S1x128.size (inbO k)).emb (ix2 0 x1) 1
        = (⟨256 * tile k + (128 * half k + x1.val), by simp only [tile, half]; omega⟩ : Fin 2048) :=
      Fin.ext (show 128 * (k.val % 16) + 1 * x1.val = 256 * tile k + (128 * half k + x1.val) by simp only [tile, half]; omega)
    unfold block
    rw [e0, e1]
    pointwise []

variable {c : Dev nD} (i : grid0.Coords) (arg2 : Memref sig .tc .vmem S128x2048 .fp8e4m3) (harg2 : arg2.IsWhole) (arg3 : Memref sig .tc .vmem S1x2048 .f32) (harg3 : arg3.IsWhole) (arg4 : Memref sig .tc .vmem S8x512x128 .fp8e4m3) (harg4 : arg4.IsWhole) (arg5 : Memref sig .tc .vmem S8x512 .f32) (harg5 : arg5.IsWhole) (arg6 : Memref sig .tc .vmem S8x2048 .f32) (harg6 : arg6.IsWhole)
    (x0 : Vec Ideal S128x2048 .fp8e4m3) (x1 : Vec Ideal S1x2048 .f32) (x2 : Vec Ideal S8x512x128 .fp8e4m3) (x3 : Vec Ideal S8x512 .f32) (xt0 : TbBuf0 (F := Ideal) c tbM0_0)

/-- The length word of a document of the block. -/
def lenOf (j : Fin 8) : BitVec 32 :=
  View.readAt (Elt Ideal) tbM0_0.view (Rect.unit (s := S768) (k0_off1 i (BitVec.ofNat 32 j.val)) S1.size (k0_off1_inb i j)).toLoadRect xt0
    (Shape.Idx.first (numel1_S1.symm ▸ Nat.one_pos))

theorem lenAt_eq (k : Fin 128) : lenAt i xt0 k = lenOf i xt0 ⟨doc k, by have := k.isLt; simp only [doc]; omega⟩ := rfl

/-- Each piece is the block function over the piece's rectangle. -/
theorem piece_apply (k : Fin 128) (x : (piece i arg2 harg2 arg3 harg3 arg4 harg4 arg5 harg5 x0 x1 x2 x3 xt0 k).1.shape.Idx) :
    (piece i arg2 harg2 arg3 harg3 arg4 harg4 arg5 harg5 x0 x1 x2 x3 xt0 k).2 x
      = block x0 x1 x2 x3 (lenOf i xt0) ((piece i arg2 harg2 arg3 harg3 arg4 harg4 arg5 harg5 x0 x1 x2 x3 xt0 k).1.emb x) := by
  unfold piece
  simp only [View.readAt_eq_ld, harg2.read_unread, harg3.read_unread, harg4.read_unread, harg5.read_unread]
  exact val_block k x0 x1 x2 x3 (lenOf i xt0) x

/-- The output block after a grid point is the block function of the point's inputs. -/
theorem out_eq :
    out0_A_4 c i arg2 harg2 arg3 harg3 arg4 harg4 arg5 harg5 arg6 harg6 x0 x1 x2 x3 xt0 = block x0 x1 x2 x3 (lenOf i xt0) := by
  funext y
  unfold out0_A_4
  rw [View.read_writes_junk_apply_eq_canon]
  apply View.canon_apply_of_pieces
  · intro p hp x
    rw [run_pieces] at hp
    obtain ⟨k, -, rfl⟩ := List.mem_map.mp hp
    exact piece_apply i arg2 harg2 arg3 harg3 arg4 harg4 arg5 harg5 x0 x1 x2 x3 xt0 k x
  · exact cover0_A_4 c i arg2 harg2 arg3 harg3 arg4 harg4 arg5 harg5 arg6 harg6 x0 x1 x2 x3 xt0 y

end Cert.KernelIdeal.Body

end
-- ==== Proof.Final.lean ====
/- The array the kernel's launch leaves, as one function of the argument arrays: element (document, query
   token) of the 768 × 2048 output. -/
module

public import proofs.«01_k».proof.Proof.Block
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.Sem
open Cert.KernelIdeal.Gen

/-- The output array from the argument arrays: query token `i 1` of the flattened 32 × 64 tokens, document `i 0`. -/
def table (q : Vec Ideal S32x64x128 .fp8e4m3) (qs : Vec Ideal S32x64 .f32) (d : Vec Ideal S768x512x128 .fp8e4m3)
    (ds : Vec Ideal S768x512 .f32) (len : S768.Idx → BitVec 32) (i : S768x2048.Idx) : EReal :=
  cell (len (ix1 (i 0)))
    (fun k => q (ix3 (⟨(i 1).val / 64, by have : (i 1).val < 2048 := (i 1).isLt; omega⟩ : Fin 32) (⟨(i 1).val % 64, by omega⟩ : Fin 64) k))
    (qs (ix2 (⟨(i 1).val / 64, by have : (i 1).val < 2048 := (i 1).isLt; omega⟩ : Fin 32) (⟨(i 1).val % 64, by omega⟩ : Fin 64)))
    (fun s k => d (ix3 (i 0) s k)) (fun s => ds (ix2 (i 0) s))

variable (m : (ℓ : Loc nD τ sig) → Buf (Elt Ideal) ℓ) (hO : Ok m) (c : Dev nD)

/-- The written-back blocks cover the output array. -/
theorem covers : ((cfgM m hO).win 4).Covers := of_decide_eq_true (by sl_kernel_rfl)

/-- The index maps at a grid point: the query operands whole, the document operands and the output by eight documents. -/
theorem idx (t : Fin (cfgM m hO).N) :
    ((pcfg0 (F := Ideal)).win (adm m hO) 0).index t = ![0, 0] ∧ ((pcfg0 (F := Ideal)).win (adm m hO) 1).index t = ![0, 0]
    ∧ ((pcfg0 (F := Ideal)).win (adm m hO) 2).index t = ![t.val, 0, 0] ∧ ((pcfg0 (F := Ideal)).win (adm m hO) 3).index t = ![t.val, 0]
    ∧ ((pcfg0 (F := Ideal)).win (adm m hO) 4).index t = ![t.val, 0] :=
  (by decide +kernel : ∀ t : Fin grid0.N, cc0_transform_0 (grid0.coords t) = ![0, 0] ∧ cc0_transform_1 (grid0.coords t) = ![0, 0]
    ∧ cc0_transform_2 (grid0.coords t) = ![t.val, 0, 0] ∧ cc0_transform_3 (grid0.coords t) = ![t.val, 0]
    ∧ cc0_transform_4 (grid0.coords t) = ![t.val, 0]) t

/-- The query codes as the launch finds them: flattened over the tokens and transposed. -/
theorem entry1 : (V m c main_v1 : Vec Ideal S128x2048 .fp8e4m3)
    = transpose S128x2048 [1, 0] (shapeCast S2048x128 (m ((c : Thread nD τ).loc main_arg0) : Vec Ideal S32x64x128 .fp8e4m3) shapeCasts_S32x64x128_S2048x128)
        transposes_S2048x128_S128x2048_1_0 := by
  entry_read
  rfl

/-- The query scales as the launch finds them: one row. -/
theorem entry2 : (V m c main_v2 : Vec Ideal S1x2048 .f32)
    = shapeCast S1x2048 (m ((c : Thread nD τ).loc main_arg1) : Vec Ideal S32x64 .f32) shapeCasts_S32x64_S1x2048 := by
  entry_read
  rfl

/-- Column `j` of the transposed codes is token `j % 64` of query `j / 64`, -/
theorem flat_codes (X : Vec Ideal S32x64x128 .fp8e4m3) (k : Fin 128) (j : Fin 2048) :
    transpose S128x2048 [1, 0] (shapeCast S2048x128 X shapeCasts_S32x64x128_S2048x128) transposes_S2048x128_S128x2048_1_0 (ix2 k j)
      = X (ix3 (⟨j.val / 64, by have := j.isLt; omega⟩ : Fin 32) (⟨j.val % 64, by omega⟩ : Fin 64) k) := by
  have := j.isLt
  have := k.isLt
  pointwise []

/-- and so is column `j` of the scales. -/
theorem flat_scales (X : Vec Ideal S32x64 .f32) (j : Fin 2048) :
    shapeCast S1x2048 X shapeCasts_S32x64_S1x2048 (ix2 0 j)
      = X (ix2 (⟨j.val / 64, by have := j.isLt; omega⟩ : Fin 32) (⟨j.val % 64, by omega⟩ : Fin 64)) := by
  have := j.isLt
  pointwise []

/-- The query block is the whole array of query codes, one token per column. -/
theorem blk0 (t : Fin (cfgM m hO).N) (k : Fin 128) (j : Fin 2048) :
    (iblk m hO c 0 t : Vec Ideal S128x2048 .fp8e4m3) (ix2 k j)
      = (m ((c : Thread nD τ).loc main_arg0) : Vec Ideal S32x64x128 .fp8e4m3)
          (ix3 (⟨j.val / 64, by have := j.isLt; omega⟩ : Fin 32) (⟨j.val % 64, by omega⟩ : Fin 64) k) := by
  have h := (idx m hO t).1
  have e : ((((cfgM m hO).win 0).blk t).view.emb (ix2 k j) : S128x2048.Idx) = ix2 k j := by
    blk_ext []
    · exact (congrArg (fun v : Fin 2 → Nat => v 0 * 128 + k.val) h).trans (by simp)
    · exact (congrArg (fun v : Fin 2 → Nat => v 1 * 2048 + j.val) h).trans (by simp)
  refine (congrArg (V m c main_v1 : Vec Ideal S128x2048 .fp8e4m3) e).trans ?_
  rw [entry1]
  exact flat_codes _ k j

/-- The query scales' block is the whole row of query scales. -/
theorem blk1 (t : Fin (cfgM m hO).N) (j : Fin 2048) :
    (iblk m hO c 1 t : Vec Ideal S1x2048 .f32) (ix2 0 j)
      = (m ((c : Thread nD τ).loc main_arg1) : Vec Ideal S32x64 .f32)
          (ix2 (⟨j.val / 64, by have := j.isLt; omega⟩ : Fin 32) (⟨j.val % 64, by omega⟩ : Fin 64)) := by
  have h := (idx m hO t).2.1
  have e : ((((cfgM m hO).win 1).blk t).view.emb (ix2 0 j) : S1x2048.Idx) = ix2 0 j := by
    blk_ext []
    · exact (congrArg (fun v : Fin 2 → Nat => v 0 * 1 + 0) h).trans (by simp)
    · exact (congrArg (fun v : Fin 2 → Nat => v 1 * 2048 + j.val) h).trans (by simp)
  refine (congrArg (V m c main_v2 : Vec Ideal S1x2048 .f32) e).trans ?_
  rw [entry2]
  exact flat_scales _ j

/-- A grid point has eight documents. -/
theorem blk2 (t : Fin (cfgM m hO).N) (a : Fin 8) (s : Fin 512) (k : Fin 128) :
    (iblk m hO c 2 t : Vec Ideal S8x512x128 .fp8e4m3) (ix3 a s k)
      = (m ((c : Thread nD τ).loc main_arg2) : Vec Ideal S768x512x128 .fp8e4m3)
          (ix3 (⟨8 * t.val + a.val, by have := a.isLt; have : t.val < 96 := t.isLt; omega⟩ : Fin 768) s k) := by
  have h := (idx m hO t).2.2.1
  blk_ext [iblk, V]
  · exact (congrArg (fun v : Fin 3 → Nat => v 0 * 8 + a.val) h).trans (by simp; omega)
  · exact (congrArg (fun v : Fin 3 → Nat => v 1 * 512 + s.val) h).trans (by simp)
  · exact (congrArg (fun v : Fin 3 → Nat => v 2 * 128 + k.val) h).trans (by simp)

theorem blk3 (t : Fin (cfgM m hO).N) (a : Fin 8) (s : Fin 512) :
    (iblk m hO c 3 t : Vec Ideal S8x512 .f32) (ix2 a s)
      = (m ((c : Thread nD τ).loc main_arg3) : Vec Ideal S768x512 .f32)
          (ix2 (⟨8 * t.val + a.val, by have := a.isLt; have : t.val < 96 := t.isLt; omega⟩ : Fin 768) s) := by
  have h := (idx m hO t).2.2.2.1
  blk_ext [iblk, V]
  · exact (congrArg (fun v : Fin 2 → Nat => v 0 * 8 + a.val) h).trans (by simp; omega)
  · exact (congrArg (fun v : Fin 2 → Nat => v 1 * 512 + s.val) h).trans (by simp)

theorem off_len : ∀ (t : Fin grid0.N) (a : Fin 8), k0_off1 (grid0.coords t) (BitVec.ofNat 32 a.val) 0 = 8 * t.val + a.val := by
  decide +kernel

/-- The length word read for a document of the block is the document's. -/
theorem len_eq (t : Fin (cfgM m hO).N) (a : Fin 8) :
    lenOf (c := c) (grid0.coords t) (tbl m 0) a
      = (m ((c : Thread nD τ).loc main_arg4) : S768.Idx → BitVec 32)
          (ix1 (⟨8 * t.val + a.val, by have := a.isLt; have : t.val < 96 := t.isLt; omega⟩ : Fin 768)) := by
  obtain rfl : c = 0 := Subsingleton.elim _ _
  unfold lenOf
  refine (congrFun (V_main_arg4 m 0) _).trans (congrArg _ ?_)
  funext b
  match b with
  | ⟨0, _⟩ => exact Fin.ext (Eq.trans (Nat.add_zero _) (off_len t a))

theorem final : (dats m hO 0 c).arrAt 4 (cfgM m hO).N
    = table (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m hO 0 c).arrAt_eq_of_covers 4 _ (covers m hO) fun t _ y => ?_
  blk_simp
  rw [after0_4, outsAt0]
  refine (congrFun (out_eq _ _ _ _ _ _ _ _ _ _ _ _ _ _ _ _) y).trans ?_
  change S8x2048.Idx at y
  idx_vars y
  have h := (idx m hO t).2.2.2.2
  have e : ((((cfgM m hO).win 4).blk t).view.emb (ix2 y0 y1) : S768x2048.Idx)
      = ix2 (⟨8 * t.val + y0.val, by have := y0.isLt; have : t.val < 96 := t.isLt; omega⟩ : Fin 768) y1 := by
    blk_ext []
    · exact (congrArg (fun v : Fin 2 → Nat => v 0 * 8 + y0.val) h).trans (by simp; omega)
    · exact (congrArg (fun v : Fin 2 → Nat => v 1 * 2048 + y1.val) h).trans (by simp)
  unfold block table
  rw [e]
  have hq : (fun k => (iblk m hO c 0 t : Vec Ideal S128x2048 .fp8e4m3) (ix2 k y1)) = _ := funext fun k => blk0 m hO c t k y1
  have hd : (fun s k => (iblk m hO c 2 t : Vec Ideal S8x512x128 .fp8e4m3) (ix3 y0 s k)) = _ := funext fun s => funext fun k => blk2 m hO c t y0 s k
  have hds : (fun s => (iblk m hO c 3 t : Vec Ideal S8x512 .f32) (ix2 y0 s)) = _ := funext fun s => blk3 m hO c t y0 s
  have hlen := len_eq m hO c t y0
  have hqs := blk1 m hO c t y1
  exact (congrArg (fun z => cell z _ _ _ _) hlen).trans ((congrArg (fun z => cell _ z _ _ _) hq).trans
    ((congrArg (fun z => cell _ _ z _ _) hqs).trans ((congrArg (fun z => cell _ _ _ z _) hd).trans (congrArg (fun z => cell _ _ _ _ z) hds))))

end Cert.KernelIdeal.Body

end
-- ==== Proof.Math.lean ====
/- Scaling after the maximum or before it. -/
module

public import proofs.«01_k».proof.Proof.Block

@[expose] public section

noncomputable section

namespace Cert.Proof

open Idealize.ShloMosaic
open Cert.KernelIdeal.Body (cell)

/-- Multiplying by a factor that is not negative commutes with a maximum over a finite set. -/
theorem fold_max_mul {ι : Type} [Fintype ι] (f : ι → EReal) (b c : EReal) (hc : 0 ≤ c) :
    Finset.fold max b f Finset.univ * c = Finset.fold max (b * c) (fun i => f i * c) Finset.univ := by
  classical
  have key : ∀ s : Finset ι, Finset.fold max b f s * c = Finset.fold max (b * c) (fun i => f i * c) s := by
    intro s
    induction s using Finset.induction_on with
    | empty => simp
    | insert i s hi ih =>
      rw [Finset.fold_insert hi, Finset.fold_insert hi, ← ih]
      exact Monotone.map_max (fun x y h => mul_le_mul_of_nonneg_right h hc)
  exact key _

/-- The masking constant is minus infinity. -/
theorem mask_eq : Ideal.ofBits FTy.f32 0xFF800000#32 = ⊥ := by
  simp [Ideal.ofBits, Ideal.ieee]

/-- The absolute value of a scale that is not negative. -/
theorem abs_eq (x : EReal) (hx : 0 ≤ x) : (FloatOps.absf (F := Ideal) (φ := .f32) x : EReal) = x := by
  show max x (-x) = x
  exact max_eq_left ((EReal.neg_le_neg_iff.mpr hx).trans (by simpa using hx))

/-- For a scale that is not negative, and positive if the document has no valid token, the kernel's element is the maximum of
    the scaled products: no code is negated, and the scale may be multiplied in before the maximum. -/
theorem cell_eq (len : BitVec 32) (q : Fin 128 → EReal) (qs : EReal) (d : Fin 512 → Fin 128 → EReal) (ds : Fin 512 → EReal)
    (h0 : 0 ≤ qs) (h1 : IntOp.cmpi CmpIPredicate.sgt len 0#32 = 1#1 ∨ 0 < qs) :
    cell len q qs d ds
      = Finset.fold max (Ideal.ofBits FTy.f32 0xFF800000#32)
          (fun s : Fin 512 => Scalar.select (IntOp.cmpi CmpIPredicate.slt (BitVec.ofNat 32 s.val) len)
            ((∑ k : Fin 128, d s k * q k) * qs * ds s) (Ideal.ofBits FTy.f32 0xFF800000#32))
          Finset.univ := by
  unfold cell
  rw [abs_eq qs h0, mask_eq]
  simp only [if_neg (not_lt.mpr h0)]
  rcases h0.lt_or_eq with hpos | hz
  · rw [fold_max_mul _ _ _ h0, EReal.bot_mul_of_pos hpos]
    congr 1
    funext s
    by_cases h : IntOp.cmpi CmpIPredicate.slt (BitVec.ofNat 32 s.val) len = 1#1
    · rw [h]; simp only [Scalar.select, if_true]; exact mul_right_comm _ _ _
    · have h' : ¬IntOp.cmpi CmpIPredicate.slt (BitVec.ofNat 32 s.val) len = 1 := h
      simp only [Scalar.select, if_neg h']
      exact EReal.bot_mul_of_pos hpos
  · subst hz
    have hlen : IntOp.cmpi CmpIPredicate.slt (BitVec.ofNat 32 (0 : Fin 512).val) len = 1#1 := by
      rcases h1 with h | h
      · simpa [IntOp.cmpi] using h
      · exact absurd h (lt_irrefl _)
    rw [mul_zero]
    apply le_antisymm
    · refine (Finset.le_fold_max _).mpr (Or.inr ⟨0, Finset.mem_univ _, ?_⟩)
      rw [hlen]; simp [Scalar.select]
    · refine (Finset.fold_max_le _).mpr ⟨bot_le, fun s _ => ?_⟩
      by_cases h : IntOp.cmpi CmpIPredicate.slt (BitVec.ofNat 32 s.val) len = 1#1
      · simp [Scalar.select, h]
      · simp [Scalar.select, h]

end Cert.Proof

end
-- ==== Proof.Values.lean ====
/- The reference's per-token maxima, element by element. -/
module

public import proofs.«01_k».proof.Proof.ReferenceTail
public import proofs.«01_k».proof.Proof.Final
public import proofs.«01_k».proof.Proof.Math

@[expose] public section

set_option maxRecDepth 16384

noncomputable section

namespace Cert.Proof

open Idealize.ShloMosaic Idealize.ShloMosaic.TcCoe Idealize.ShloMosaic.Tactic
open Cert.KernelIdeal.Body (cell table)

open Cert.ReferenceIdeal in
/-- The reference's maximum for query token `(a, t)` and document `b`. -/
theorem reference_at (d : FVec Ideal S768x512x128 .f32) (q : FVec Ideal S32x64x128 .f32) (qs : FVec Ideal S32x64 .f32)
    (ds : FVec Ideal S768x512 .f32) (len : S768.Idx → BitVec 32) (a : Fin 32) (b : Fin 768) (t : Fin 64) :
    Cert.ReferenceIdeal.Tail.tokens d q qs ds len (ix3 a b t)
      = Finset.fold max (Ideal.ofBits FTy.f32 0xFF800000#32)
          (fun s : Fin 512 => Scalar.select (IntOp.cmpi CmpIPredicate.slt (BitVec.ofNat 32 s.val) (len (ix1 b)))
            ((∑ k : Fin 128, d (ix3 b s k) * q (ix3 a t k)) * qs (ix2 a t) * ds (ix2 b s)) (Ideal.ofBits FTy.f32 0xFF800000#32))
          Finset.univ := by
  pointwise [Cert.ReferenceIdeal.Tail.tokens, Cert.ReferenceIdeal.Tail.masked, Cert.ReferenceIdeal.Tail.sims, Cert.ReferenceIdeal.Tail.valid]

open Cert.KernelIdeal in
/-- The kernel's, from the launch's output array. -/
theorem kernel_at (o : FVec Ideal S768x2048 .f32) (a : Fin 32) (b : Fin 768) (t : Fin 64) :
    Cert.KernelIdeal.Tail.tokens o (ix3 a b t) = o (ix2 b (⟨a.val * 64 + t.val, by omega⟩ : Fin 2048)) := by
  pointwise! [Cert.KernelIdeal.Tail.tokens]

open Cert.KernelIdeal in
/-- THE VALUES AGREE: the kernel's per-token maxima are the reference's, wherever no query scale is negative and each
    document has a valid token or every query scale is positive. -/
theorem tokens_eq (q : FVec Ideal S32x64x128 .fp8e4m3) (qs : FVec Ideal S32x64 .f32) (d : FVec Ideal S768x512x128 .fp8e4m3)
    (ds : FVec Ideal S768x512 .f32) (len : S768.Idx → BitVec 32) (h0 : ∀ i, (0 : EReal) ≤ qs i)
    (h1 : ∀ (a : Fin 32) (b : Fin 768) (t : Fin 64), IntOp.cmpi CmpIPredicate.sgt (len (ix1 b)) 0#32 = 1#1 ∨ (0 : EReal) < qs (ix2 a t)) :
    Cert.KernelIdeal.Tail.tokens (table q qs d ds len) = Cert.ReferenceIdeal.Tail.tokens d q qs ds len := by
  funext j
  obtain ⟨a, b, t, rfl⟩ : ∃ (a : Fin 32) (b : Fin 768) (t : Fin 64), j = ix3 a b t := ⟨j 0, j 1, j 2, by idx_vars j⟩
  rw [reference_at, kernel_at]
  have ha : (a.val * 64 + t.val) / 64 = a.val := by omega
  have ht : (a.val * 64 + t.val) % 64 = t.val := by omega
  have := cell_eq (len (ix1 b)) (fun k => q (ix3 a t k)) (qs (ix2 a t)) (fun s k => d (ix3 b s k)) (fun s => ds (ix2 b s)) (h0 _) (h1 a b t)
  rw [← this]
  show cell _ _ _ _ _ = _
  congr 1
  · funext k
    exact congrArg₂ (fun x y => q (ix3 x y k)) (Fin.ext ha) (Fin.ext ht)
  · exact congrArg₂ (fun x y => qs (ix2 x y)) (Fin.ext ha) (Fin.ext ht)

end Cert.Proof

end
-- ==== Proof.KernelRun.lean ====
/- The kernel's run: what its three results hold at the end, as functions of the argument arrays. -/
module

public import proofs.«01_k».proof.Proof.Final
public import proofs.«01_k».proof.Proof.KernelTail

@[expose] public section

set_option maxRecDepth 16384

noncomputable section

namespace Cert.KernelIdeal.Run

open Idealize.ShloMosaic Idealize.ShloMosaic.TcCoe Idealize.ShloMosaic.Tactic
open Idealize.SL Idealize.SL.Sem
open Cert.KernelIdeal.Gen Cert.KernelIdeal.Body Cert.KernelIdeal.Tail

variable (m : (ℓ : Loc nD τ sig) → Buf (Elt Ideal) ℓ) (g : Dev nD → PrngReg) (c : Dev nD)

/-- The per-token maxima of the arguments. -/
def maxima : FVec Ideal S32x768x64 .f32 :=
  tokens (table (m ((c : Thread nD τ).loc main_arg0)) (m ((c : Thread nD τ).loc main_arg1)) (m ((c : Thread nD τ).loc main_arg2))
    (m ((c : Thread nD τ).loc main_arg3)) (m ((c : Thread nD τ).loc main_arg4)))

/-- The buffers as the lines after the launch find them. -/
abbrev left (hO : Ok m) : Valuation τ sig (Elt Ideal) :=
  Pipeline.withArrays (Pipeline.pin (pcfgs (F := Ideal)) (fun _ => adm m hO) 0).spec c (V0 m c) fun w => (dats m hO 0 c).arrAt w (Pipeline.pin (pcfgs (F := Ideal)) (fun _ => adm m hO) 0).N

/-- The launch's output array is there as the launch left it, -/
theorem left_out (hO : Ok m) : left m c hO (Proc.devRef .tc main_v3)
    = table (m ((c : Thread nD τ).loc main_arg0)) (m ((c : Thread nD τ).loc main_arg1)) (m ((c : Thread nD τ).loc main_arg2))
      (m ((c : Thread nD τ).loc main_arg3)) (m ((c : Thread nD τ).loc main_arg4)) :=
  (Pipeline.withArrays_arr (win := (Pipeline.pin (pcfgs (F := Ideal)) (fun _ => adm m hO) 0).spec) (launch0 (F := Ideal)).win.arr_inj c (V0 m c) (fun w => (dats m hO 0 c).arrAt w _) 4).trans (final m hO c)

/-- and the positive documents as launched. -/
theorem left_pos (hO : Ok m) : left m c hO (Proc.devRef .tc main_arg5) = m ((c : Thread nD τ).loc main_arg5) :=
  (Pipeline.withArrays_of_ne (Pipeline.pin (pcfgs (F := Ideal)) (fun _ => adm m hO) 0).spec c (V0 m c) (fun w => (dats m hO 0 c).arrAt w _) main_arg5
    (by exact (by decide : ∀ w, Pipeline.arrRef spec0 w ≠ main_arg5))).trans (V_main_arg5 m c)

set_option maxHeartbeats 1600000 in
/-- The run: scores, loss and per-token maxima, the arguments unchanged. -/
theorem run : θ_run defs (onTc (τ := τ) (main (F := Ideal))) ⟨m, fun _ => 0, g⟩ (fun r => ∀ c : Dev nD,
      (r.2.mem ((c.tc : Thread nD τ).loc main_v6) = scores (maxima m c)
      ∧ r.2.mem ((c.tc : Thread nD τ).loc main_v23) = loss (scores (maxima m c)) (m ((c : Thread nD τ).loc main_arg5))
      ∧ r.2.mem ((c.tc : Thread nD τ).loc main_v5) = maxima m c)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) := by
  have hO : Ok m := trivial
  refine θ_run_mono (θ_run_and (Gen.run_main m g hO) (Gen.unchanged m g hO)) ?_
  rintro r ⟨h, hu⟩ c
  refine ⟨⟨?_, ?_, ?_⟩, hu c⟩
  · refine ((h c).2 main_v6 (by decide : main_v6 ∈ Pipeline.restRefs sig spec0)).trans ((scores_eq (left m c hO)).trans ?_)
    rw [left_out]; rfl
  · refine ((h c).2 main_v23 (by decide : main_v23 ∈ Pipeline.restRefs sig spec0)).trans ((loss_eq (left m c hO)).trans ?_)
    rw [left_out, left_pos]; rfl
  · refine ((h c).2 main_v5 (by decide : main_v5 ∈ Pipeline.restRefs sig spec0)).trans ((tokens_eq (left m c hO)).trans ?_)
    rw [left_out]; rfl

end Cert.KernelIdeal.Run

end
-- ==== Proof.Widen.lean ====
/- The reference's launch widens the codes: at the ideal reading it leaves them as they are. -/
module

public import proofs.«01_k».proof.Proof.Gen.ReferenceIdeal.Frame
public import Idealize.ShloMosaic.Lib.Pipeline.ValueKit
public import Idealize.ShloMosaic.Lib.Claim

@[expose] public section

set_option maxRecDepth 16384

noncomputable section

namespace Cert.ReferenceIdeal.Widen

open Idealize.ShloMosaic Idealize.ShloMosaic.TcCoe Idealize.ShloMosaic.Tactic
open Idealize.SL Idealize.SL.Sem
open Idealize.ShloMosaic.Pipeline (Dat)
open Cert.ReferenceIdeal.Gen

variable (m : (ℓ : Loc nD τ sig) → Buf (Elt Ideal) ℓ) (c : Dev nD)

/-- Every window's block is the whole array. -/
theorem idx (t : Fin cfg0.N) :
    (cfg0.win 0).index t = ![0, 0, 0] ∧ (cfg0.win 1).index t = ![0, 0, 0] ∧ (cfg0.win 2).index t = ![0, 0, 0] ∧ (cfg0.win 3).index t = ![0, 0, 0] :=
  (by decide +kernel : ∀ t : Fin cfg0.N, (cfg0.win 0).index t = ![0, 0, 0] ∧ (cfg0.win 1).index t = ![0, 0, 0]
    ∧ (cfg0.win 2).index t = ![0, 0, 0] ∧ (cfg0.win 3).index t = ![0, 0, 0]) t

/-- The query codes come out as they went in, -/
theorem final2 : ((dats m 0 c).arrAt 2 cfg0.N : FVec Ideal S32x64x128 .f32) = m ((c : Thread nD τ).loc main_arg0) := by
  refine (dats m 0 c).arrAt_eq_of_after_last 2 t0_0 (by decide +kernel) _ fun j => ?_
  blk_simp
  rw [after0_2]
  frame_out
  pointwise [k0_pay1, k0_pay2]
  blk_point [iblk, V, idx t0_0]

/-- and so do the document codes. -/
theorem final3 : ((dats m 0 c).arrAt 3 cfg0.N : FVec Ideal S768x512x128 .f32) = m ((c : Thread nD τ).loc main_arg2) := by
  refine (dats m 0 c).arrAt_eq_of_after_last 3 t0_0 (by decide +kernel) _ fun j => ?_
  blk_simp
  rw [after0_3]
  frame_out
  pointwise [k0_pay1, k0_pay2]
  blk_point [iblk, V, idx t0_0]

end Cert.ReferenceIdeal.Widen

end
-- ==== Proof.ReferenceRun.lean ====
/- The reference's run: what its three results hold at the end, as functions of the argument arrays. -/
module

public import proofs.«01_k».proof.Proof.Widen
public import proofs.«01_k».proof.Proof.ReferenceTail

@[expose] public section

set_option maxRecDepth 16384

noncomputable section

namespace Cert.ReferenceIdeal.Run

open Idealize.ShloMosaic Idealize.ShloMosaic.TcCoe Idealize.ShloMosaic.Tactic
open Idealize.SL Idealize.SL.Sem
open Cert.ReferenceIdeal.Gen Cert.ReferenceIdeal.Widen Cert.ReferenceIdeal.Tail
open Cert.KernelIdeal.Tail (scores loss)

variable (m : (ℓ : Loc nD τ sig) → Buf (Elt Ideal) ℓ) (g : Dev nD → PrngReg) (c : Dev nD)

/-- The per-token maxima of the arguments. -/
def best : FVec Ideal S32x768x64 .f32 :=
  tokens (m ((c : Thread nD τ).loc main_arg2)) (m ((c : Thread nD τ).loc main_arg0)) (m ((c : Thread nD τ).loc main_arg1))
    (m ((c : Thread nD τ).loc main_arg3)) (m ((c : Thread nD τ).loc main_arg4))

/-- The buffers as the lines after the widening launch find them. -/
abbrev left : Valuation τ sig (Elt Ideal) :=
  Pipeline.withArrays (cfgs 0).spec c (V0 m c) fun w => (dats m 0 c).arrAt w (cfgs 0).N

/-- The widened query codes, -/
theorem left_q : left m c (Proc.devRef .tc main_v0_0) = m ((c : Thread nD τ).loc main_arg0) :=
  (Pipeline.withArrays_arr (cfgs 0).spec launch0.win.arr_inj c (V0 m c) (fun w => (dats m 0 c).arrAt w _) 2).trans (final2 m c)

/-- the widened document codes, -/
theorem left_d : left m c (Proc.devRef .tc main_v0_1) = m ((c : Thread nD τ).loc main_arg2) :=
  (Pipeline.withArrays_arr (cfgs 0).spec launch0.win.arr_inj c (V0 m c) (fun w => (dats m 0 c).arrAt w _) 3).trans (final3 m c)

/-- and the arguments the launch does not touch, as launched. -/
theorem left_arg (b : Ref sig .tc) (hb : ∀ w, Pipeline.arrRef spec0 w ≠ b) : left m c (Proc.devRef .tc b) = m ((c : Thread nD τ).loc b) :=
  Pipeline.withArrays_of_ne (cfgs 0).spec c (V0 m c) (fun w => (dats m 0 c).arrAt w _) b hb

/-- The maxima the lines compute are those of the arguments. -/
theorem maxima_left : maxima (left m c) = best m c := by
  unfold maxima best
  rw [left_q, left_d, left_arg m c main_arg1 (by decide), left_arg m c main_arg3 (by decide), left_arg m c main_arg4 (by decide)]

set_option maxHeartbeats 1600000 in
/-- The run: scores, loss and per-token maxima, the arguments unchanged. -/
theorem run : θ_run defs (onTc (τ := τ) (main (F := Ideal))) ⟨m, fun _ => 0, g⟩ (fun r => ∀ c : Dev nD,
      (r.2.mem ((c.tc : Thread nD τ).loc main_v18) = scores (best m c)
      ∧ r.2.mem ((c.tc : Thread nD τ).loc main_v35) = loss (scores (best m c)) (m ((c : Thread nD τ).loc main_arg5))
      ∧ r.2.mem ((c.tc : Thread nD τ).loc main_v17) = best m c)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) := by
  refine θ_run_mono (θ_run_and (Gen.run_main m g) (Gen.unchanged m g)) ?_
  rintro r ⟨h, hu⟩ c
  refine ⟨⟨?_, ?_, ?_⟩, hu c⟩
  · refine ((h c).2 main_v18 (Pipeline.mem_restRefs_of main_v18 (by decide) (by decide))).trans ((scores_eq (left m c)).trans ?_)
    rw [maxima_left]
  · refine ((h c).2 main_v35 (Pipeline.mem_restRefs_of main_v35 (by decide) (by decide))).trans ((loss_eq (left m c)).trans ?_)
    rw [maxima_left, left_arg m c main_arg5 (by decide)]
  · refine ((h c).2 main_v17 (Pipeline.mem_restRefs_of main_v17 (by decide) (by decide))).trans ((tokens_eq (left m c)).trans ?_)
    rw [maxima_left]

end Cert.ReferenceIdeal.Run

end
-- ==== Proof.Algebraic.lean ====
/- The kernel and the reference compute the same three results. -/
module

public import proofs.«01_k».proof.Defs
public import proofs.«01_k».proof.Proof.Gen.Pre_nonneg_scales
public import proofs.«01_k».proof.Proof.Pre
public import proofs.«01_k».proof.Proof.Values
public import proofs.«01_k».proof.Proof.KernelRun
public import proofs.«01_k».proof.Proof.ReferenceRun

@[expose] public section

set_option maxRecDepth 16384

noncomputable section

namespace Cert.Proof

open Idealize.ShloMosaic Idealize.ShloMosaic.TcCoe
open Idealize.SL Idealize.SL.Sem
open Cert.KernelIdeal.Tail Cert.KernelIdeal.Run Cert.ReferenceIdeal.Run

/-- The per-token maxima agree when the arguments do and the precondition holds. -/
theorem best_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal_nonneg_scales m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    best m' c = maxima m c := by
  obtain ⟨p, p'⟩ := hpre c
  unfold best maxima
  rw [h0, h1, h2, h3, h4]
  exact (tokens_eq _ _ _ _ _ (scale_nonneg _ _ _ _ _ _ p) (nonempty_or_pos _ _ _ _ _ _ p')).symm

/-- The two runs end with the same scores, loss and per-token maxima, and leave their arguments alone. -/
theorem algebraic : Cert.algebraic_KernelIdeal_ReferenceIdeal_pre_nonneg_scales := by
  intro m g m' g' hpre hagree
  refine ⟨fun c => scores (maxima m c),
    fun c => loss (scores (maxima m c)) (m ((c.tc : Thread Cert.KernelIdeal.nD Cert.KernelIdeal.τ).loc Cert.KernelIdeal.main_arg5)),
    fun c => maxima m c, θ_run_mono (Cert.KernelIdeal.Run.run m g) ?_, θ_run_mono (Cert.ReferenceIdeal.Run.run m' g') ?_⟩
  · intro r h c
    obtain ⟨⟨s, l, t⟩, u⟩ := h c
    exact ⟨s, l, t, u⟩
  · intro r h c
    obtain ⟨⟨s, l, t⟩, u⟩ := h c
    obtain ⟨h0, h1, h2, h3, h4, h5⟩ := hagree c
    have e := best_eq m m' c hpre h0 h1 h2 h3 h4
    rw [e] at s t
    rw [e, h5] at l
    exact ⟨s, l, t, u⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_nonneg_scales
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_nonneg_scales.Gen.facts,
    fun m ρ _ => Cert.Kernel.Gen.frame m ρ trivial,
    fun m ρ _ => Cert.KernelIdeal.Gen.frame m ρ trivial,
    fun m ρ _ => Cert.KernelIdeal.Gen.frame m ρ trivial,
    fun m ρ _ => Cert.ReferenceIdeal.Gen.frame m ρ,
    fun m ρ _ => Cert.ReferenceIdeal.Gen.frame m ρ,
    trivial, algebraic⟩

end Cert.Proof

end
